-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512x32x32 : Shape := ⟨4, ![64, 512, 32, 32]⟩
abbrev S66x512 : Shape := ⟨2, ![66, 512]⟩
abbrev S66 : Shape := ⟨1, ![66]⟩
abbrev S_ : Shape := ⟨0, ![]⟩

class Facts : Prop where
  bcast_S_S66x512 : S_.BroadcastsInDim S66x512 (![] : Fin 0 → Fin S66x512.rank)
  reducesTo_S66x512_S_d0_1 : S66x512.ReducesTo [0, 1] S_
  h_S_ : 0 < S_.numel

variable [Facts]

def fn {F : FTy → Type} [FloatOps F] (main_arg0 : FVec F S64x512x32x32 .f32) (main_arg1 : FVec F S66x512 .f32) (main_arg2 : FVec F S66 .f32) (main_arg3 : FVec F S66x512 .f32) : IVec S_ 1 :=
  let main_v0 : FVec F S66x512 .f32 := Host.absf main_arg1
  let main_cst : FVec F S_ .f32 := constant S_ .f32 0x7F800000#32
  let main_v1 : FVec F S66x512 .f32 := broadcastInDim S66x512 ![] bcast_S_S66x512 main_cst
  let main_v2 : IVec S66x512 1 := cmpf .olt main_v0 main_v1
  let main_c : IVec S_ 1 := constantI S_ 1 1#1
  let main_v3 : IVec S_ 1 := (fun x v => Host.reduce IntOp.andi x v reducesTo_S66x512_S_d0_1 h_S_) main_v2 main_c
  main_v3
-- ==== Kernel.lean ====
abbrev S64x512x32x32 : Shape := ⟨4, ![64, 512, 32, 32]⟩
abbrev S66x512 : Shape := ⟨2, ![66, 512]⟩
abbrev S66 : Shape := ⟨1, ![66]⟩
abbrev S64x512x1024 : Shape := ⟨3, ![64, 512, 1024]⟩
abbrev S_ : Shape := ⟨0, ![]⟩
abbrev S80x512 : Shape := ⟨2, ![80, 512]⟩
abbrev S80 : Shape := ⟨1, ![80]⟩
abbrev S80x1 : Shape := ⟨2, ![80, 1]⟩
abbrev S64x512 : Shape := ⟨2, ![64, 512]⟩
abbrev S64x64x512 : Shape := ⟨3, ![64, 64, 512]⟩
abbrev S8x512x1024 : Shape := ⟨3, ![8, 512, 1024]⟩
abbrev S8x64x512 : Shape := ⟨3, ![8, 64, 512]⟩
abbrev S1x512x1024 : Shape := ⟨3, ![1, 512, 1024]⟩
abbrev S512x1024 : Shape := ⟨2, ![512, 1024]⟩
abbrev S32x1024 : Shape := ⟨2, ![32, 1024]⟩
abbrev S8x1024 : Shape := ⟨2, ![8, 1024]⟩
abbrev S1024 : Shape := ⟨1, ![1024]⟩
abbrev S1x1024 : Shape := ⟨2, ![1, 1024]⟩
abbrev S80x1024 : Shape := ⟨2, ![80, 1024]⟩
abbrev S64x1024 : Shape := ⟨2, ![64, 1024]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x512 : Shape := ⟨3, ![1, 64, 512]⟩
abbrev S64x32768 : Shape := ⟨2, ![64, 32768]⟩

abbrev nBuf : Space → Nat
  | .hbm => 16
  | .vmem => 7
  | .smem => 0
  | _ => 0

abbrev bufTy : (tb : Table) → Fin (tcTables nBuf tb) → BufTy
  | .hbm, ⟨0, _⟩ => ⟨S64x512x32x32, .f32⟩
  | .hbm, ⟨1, _⟩ => ⟨S66x512, .f32⟩
  | .hbm, ⟨2, _⟩ => ⟨S66, .f32⟩
  | .hbm, ⟨3, _⟩ => ⟨S66x512, .f32⟩
  | .hbm, ⟨4, _⟩ => ⟨S64x512x1024, .f32⟩
  | .hbm, ⟨5, _⟩ => ⟨S_, .i32⟩
  | .hbm, ⟨6, _⟩ => ⟨S_, .f32⟩
  | .hbm, ⟨7, _⟩ => ⟨S80x512, .f32⟩
  | .hbm, ⟨8, _⟩ => ⟨S80x512, .bf16⟩
  | .hbm, ⟨9, _⟩ => ⟨S_, .f32⟩
  | .hbm, ⟨10, _⟩ => ⟨S_, .f32⟩
  | .hbm, ⟨11, _⟩ => ⟨S80, .f32⟩
  | .hbm, ⟨12, _⟩ => ⟨S80x1, .f32⟩
  | .hbm, ⟨13, _⟩ => ⟨S64x512, .f32⟩
  | .hbm, ⟨14, _⟩ => ⟨S64x64x512, .f32⟩
  | .hbm, ⟨15, _⟩ => ⟨S64x32768, .f32⟩
  | .local _ .vmem, ⟨0, _⟩ => ⟨S8x512x1024, .f32⟩
  | .local _ .vmem, ⟨1, _⟩ => ⟨S8x512x1024, .f32⟩
  | .local _ .vmem, ⟨2, _⟩ => ⟨S80x512, .bf16⟩
  | .local _ .vmem, ⟨3, _⟩ => ⟨S80x1, .f32⟩
  | .local _ .vmem, ⟨4, _⟩ => ⟨S64x512, .f32⟩
  | .local _ .vmem, ⟨5, _⟩ => ⟨S8x64x512, .f32⟩
  | .local _ .vmem, ⟨6, _⟩ => ⟨S8x64x512, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eps2" => some ((5316911940649 / 5316911983139663491615228241121378304 : ℝ) : EReal)
  | _ => none
-- ==== ReferenceIdeal.lean ====
abbrev S64x512x32x32 : Shape := ⟨4, ![64, 512, 32, 32]⟩
abbrev S66x512 : Shape := ⟨2, ![66, 512]⟩
abbrev S66 : Shape := ⟨1, ![66]⟩
abbrev S_ : Shape := ⟨0, ![]⟩
abbrev S64x32x32 : Shape := ⟨3, ![64, 32, 32]⟩
abbrev S64x1x32x32 : Shape := ⟨4, ![64, 1, 32, 32]⟩
abbrev S64x512x1024 : Shape := ⟨3, ![64, 512, 1024]⟩
abbrev S66x64x1024 : Shape := ⟨3, ![66, 64, 1024]⟩
abbrev S64x66x1024 : Shape := ⟨3, ![64, 66, 1024]⟩
abbrev S1x66x1 : Shape := ⟨3, ![1, 66, 1]⟩
abbrev S64x1024 : Shape := ⟨2, ![64, 1024]⟩
abbrev S64x1x1024 : Shape := ⟨3, ![64, 1, 1024]⟩
abbrev S64x66x512 : Shape := ⟨3, ![64, 66, 512]⟩
abbrev S64x66 : Shape := ⟨2, ![64, 66]⟩
abbrev S64x66x1 : Shape := ⟨3, ![64, 66, 1]⟩
abbrev S1x66x512 : Shape := ⟨3, ![1, 66, 512]⟩
abbrev S64x64x512 : Shape := ⟨3, ![64, 64, 512]⟩
abbrev S64x64 : Shape := ⟨2, ![64, 64]⟩
abbrev S64x64x1 : Shape := ⟨3, ![64, 64, 1]⟩
abbrev S64x32768 : Shape := ⟨2, ![64, 32768]⟩
abbrev S64 : Shape := ⟨1, ![64]⟩
abbrev S64x1 : Shape := ⟨2, ![64, 1]⟩

abbrev nBuf : Space → Nat
  | .hbm => 65
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S66x512, .f32⟩
  | .hbm, ⟨2, _⟩ => ⟨S66, .f32⟩
  | .hbm, ⟨3, _⟩ => ⟨S66x512, .f32⟩
  | .hbm, ⟨4, _⟩ => ⟨S64x512x32x32, .f32⟩
  | .hbm, ⟨5, _⟩ => ⟨S_, .f32⟩
  | .hbm, ⟨6, _⟩ => ⟨S64x32x32, .f32⟩
  | .hbm, ⟨7, _⟩ => ⟨S64x1x32x32, .f32⟩
  | .hbm, ⟨8, _⟩ => ⟨S64x1x32x32, .f32⟩
  | .hbm, ⟨9, _⟩ => ⟨S_, .f32⟩
  | .hbm, ⟨10, _⟩ => ⟨S64x1x32x32, .f32⟩
  | .hbm, ⟨11, _⟩ => ⟨S64x1x32x32, .f32⟩
  | .hbm, ⟨12, _⟩ => ⟨S64x512x32x32, .f32⟩
  | .hbm, ⟨13, _⟩ => ⟨S64x512x32x32, .f32⟩
  | .hbm, ⟨14, _⟩ => ⟨S64x512x1024, .f32⟩
  | .hbm, ⟨15, _⟩ => ⟨S66x64x1024, .f32⟩
  | .hbm, ⟨16, _⟩ => ⟨S64x66x1024, .f32⟩
  | .hbm, ⟨17, _⟩ => ⟨S1x66x1, .f32⟩
  | .hbm, ⟨18, _⟩ => ⟨S64x66x1024, .f32⟩
  | .hbm, ⟨19, _⟩ => ⟨S64x66x1024, .f32⟩
  | .hbm, ⟨20, _⟩ => ⟨S_, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1x1024, .f32⟩
  | .hbm, ⟨26, _⟩ => ⟨S64x66x1024, .f32⟩
  | .hbm, ⟨27, _⟩ => ⟨S64x66x1024, .f32⟩
  | .hbm, ⟨28, _⟩ => ⟨S64x66x1024, .f32⟩
  | .hbm, ⟨29, _⟩ => ⟨S_, .f32⟩
  | .hbm, ⟨30, _⟩ => ⟨S64x1024, .f32⟩
  | .hbm, ⟨31, _⟩ => ⟨S64x1x1024, .f32⟩
  | .hbm, ⟨32, _⟩ => ⟨S64x66x1024, .f32⟩
  | .hbm, ⟨33, _⟩ => ⟨S64x66x1024, .f32⟩
  | .hbm, ⟨34, _⟩ => ⟨S64x66x512, .f32⟩
  | .hbm, ⟨35, _⟩ => ⟨S_, .f32⟩
  | .hbm, ⟨36, _⟩ => ⟨S64x66, .f32⟩
  | .hbm, ⟨37, _⟩ => ⟨S64x66x1, .f32⟩
  | .hbm, ⟨38, _⟩ => ⟨S1x66x512, .f32⟩
  | .hbm, ⟨39, _⟩ => ⟨S64x66x512, .f32⟩
  | .hbm, ⟨40, _⟩ => ⟨S64x66x512, .f32⟩
  | .hbm, ⟨41, _⟩ => ⟨S64x66x512, .f32⟩
  | .hbm, ⟨42, _⟩ => ⟨S64x66x512, .f32⟩
  | .hbm, ⟨43, _⟩ => ⟨S64x64x512, .f32⟩
  | .hbm, ⟨44, _⟩ => ⟨S64x64x512, .f32⟩
  | .hbm, ⟨45, _⟩ => ⟨S_, .f32⟩
  | .hbm, ⟨46, _⟩ => ⟨S64x64, .f32⟩
  | .hbm, ⟨47, _⟩ => ⟨S64x64x1, .f32⟩
  | .hbm, ⟨48, _⟩ => ⟨S64x64x1, .f32⟩
  | .hbm, ⟨49, _⟩ => ⟨S_, .f32⟩
  | .hbm, ⟨50, _⟩ => ⟨S64x64x1, .f32⟩
  | .hbm, ⟨51, _⟩ => ⟨S64x64x1, .f32⟩
  | .hbm, ⟨52, _⟩ => ⟨S64x64x512, .f32⟩
  | .hbm, ⟨53, _⟩ => ⟨S64x64x512, .f32⟩
  | .hbm, ⟨54, _⟩ => ⟨S64x32768, .f32⟩
  | .hbm, ⟨55, _⟩ => ⟨S64x32768, .f32⟩
  | .hbm, ⟨56, _⟩ => ⟨S_, .f32⟩
  | .hbm, ⟨57, _⟩ => ⟨S64, .f32⟩
  | .hbm, ⟨58, _⟩ => ⟨S64x1, .f32⟩
  | .hbm, ⟨59, _⟩ => ⟨S64x1, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S64x32768, .f32⟩
  | .hbm, ⟨64, _⟩ => ⟨S64x32768, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Image.lean ====
/-
  What the kernel's body stores for one image, as one function of the image and of the three blocks that every image shares
  (`image`), and the output block of one grid point as eight of them (`out_eq`).
-/
module

public import proofs.«01_k».proof.Proof.Gen.KernelIdeal.Frame

@[expose] public section

noncomputable section

namespace Cert.KernelIdeal.Image

open Idealize.ShloMosaic Cert.KernelIdeal.Gen

variable {F : FTy → Type} [FloatOps F] [Named F]

/-- Thirty-two channels' squares, added up eight at a time into eight rows. -/
def sq8 (v : Vec F S32x1024 .f32) : FVec F S8x1024 .f32 :=
  have x : FVec F S32x1024 .f32 := shapeCast S32x1024 v shapeCasts_S32x1024_S32x1024
  have q : FVec F S32x1024 .f32 := mulf x x
  addf
    (addf (extractStridedSlice S8x1024 ![0, 0] q slices_S32x1024_o0_0_S8x1024)
      (extractStridedSlice S8x1024 ![8, 0] q slices_S32x1024_o8_0_S8x1024))
    (addf (extractStridedSlice S8x1024 ![16, 0] q slices_S32x1024_o16_0_S8x1024)
      (extractStridedSlice S8x1024 ![24, 0] q slices_S32x1024_o24_0_S8x1024))

/-- The eight rows over all sixteen chunks of the image's channels. -/
def acc8 (x : Vec F S512x1024 .f32) : FVec F S8x1024 .f32 :=
  addf (addf (addf (addf (addf (addf (addf (addf (addf (addf (addf (addf (addf (addf (addf
    (sq8 (View.ld x r0_1)) (sq8 (View.ld x r0_2))) (sq8 (View.ld x r0_3))) (sq8 (View.ld x r0_4)))
    (sq8 (View.ld x r0_5))) (sq8 (View.ld x r0_6))) (sq8 (View.ld x r0_7))) (sq8 (View.ld x r0_8)))
    (sq8 (View.ld x r0_9))) (sq8 (View.ld x r0_10))) (sq8 (View.ld x r0_11))) (sq8 (View.ld x r0_12)))
    (sq8 (View.ld x r0_13))) (sq8 (View.ld x r0_14))) (sq8 (View.ld x r0_15))) (sq8 (View.ld x r0_16))

/-- One chunk of channels, narrowed. -/
def cast32 (v : Vec F S32x1024 .f32) : FVec F S32x1024 .bf16 :=
  truncf .bf16 (shapeCast S32x1024 v shapeCasts_S32x1024_S32x1024) bitsLt_bf16_f32

/-- The image narrowed: its sixteen chunks, laid end to end again. -/
def narrow (x : Vec F S512x1024 .f32) : FVec F S512x1024 .bf16 :=
  concatenate S512x1024 0 [⟨S32x1024, cast32 (View.ld x r0_1)⟩, ⟨S32x1024, cast32 (View.ld x r0_2)⟩,
    ⟨S32x1024, cast32 (View.ld x r0_3)⟩, ⟨S32x1024, cast32 (View.ld x r0_4)⟩, ⟨S32x1024, cast32 (View.ld x r0_5)⟩,
    ⟨S32x1024, cast32 (View.ld x r0_6)⟩, ⟨S32x1024, cast32 (View.ld x r0_7)⟩, ⟨S32x1024, cast32 (View.ld x r0_8)⟩,
    ⟨S32x1024, cast32 (View.ld x r0_9)⟩, ⟨S32x1024, cast32 (View.ld x r0_10)⟩, ⟨S32x1024, cast32 (View.ld x r0_11)⟩,
    ⟨S32x1024, cast32 (View.ld x r0_12)⟩, ⟨S32x1024, cast32 (View.ld x r0_13)⟩, ⟨S32x1024, cast32 (View.ld x r0_14)⟩,
    ⟨S32x1024, cast32 (View.ld x r0_15)⟩, ⟨S32x1024, cast32 (View.ld x r0_16)⟩]
    concatenates_S32x1024_S32x1024_S32x1024_S32x1024_S32x1024_S32x1024_S32x1024_S32x1024_S32x1024_S32x1024_S32x1024_S32x1024_S32x1024_S32x1024_S32x1024_S32x1024_S512x1024_d0

/-- Every pixel's reciprocal norm, from the eight rows of sums of squares. -/
def pixInv (a : FVec F S8x1024 .f32) : FVec F S1x1024 .f32 :=
  rsqrt (maximumf
    (shapeCast S1x1024 (multiReduction .add [0] S1024 a 0x00000000#32 reduces_S8x1024_S1024 (.inl rfl) rfl) shapeCasts_S1024_S1x1024)
    (broadcast S1x1024 (Named.named κ "eps2" 0x179ABE15#32 : F .f32)))

/-- The exponentials of all eighty rows of logits. -/
def expo (xb : FVec F S512x1024 .bf16) (inv : FVec F S1x1024 .f32) (w : Vec F S80x512 .bf16) (b : Vec F S80x1 .f32) :
    FVec F S80x1024 .f32 :=
  exp (addf
    (mulf
      (matmul dot_S80x512_S512x1024_S80x1024_1_0_0_1_n_n none (shapeCast S80x512 w shapeCasts_S80x512_S80x512) xb
        (constant S80x1024 .f32 0x00000000#32))
      (broadcastTo S80x1024 inv broadcasts_S1x1024_S80x1024))
    (broadcastTo S80x1024 (shapeCast S80x1 b shapeCasts_S80x1_S80x1) broadcasts_S80x1_S80x1024))

/-- The assignments to the 64 clusters that are kept. -/
def assign (e : FVec F S80x1024 .f32) : FVec F S64x1024 .f32 :=
  mulf (extractStridedSlice S64x1024 ![0, 0] e slices_S80x1024_o0_0_S64x1024)
    (broadcastTo S64x1024
      (divf (broadcast S1x1024 (Scalar.ofBits .f32 0x3F800000#32 : F .f32))
        (shapeCast S1x1024 (multiReduction .add [0] S1024 e 0x00000000#32 reduces_S80x1024_S1024 (.inl rfl) rfl)
          shapeCasts_S1024_S1x1024))
      broadcasts_S1x1024_S64x1024)

/-- The residuals: the weighted pixels less the weighted centroids. -/
def resid (xb : FVec F S512x1024 .bf16) (inv : FVec F S1x1024 .f32) (a : FVec F S64x1024 .f32) (c : Vec F S64x512 .f32) :
    FVec F S64x512 .f32 :=
  subf
    (matmul dot_S64x1024_S512x1024_S64x512_1_1_0_0_n_n none
      (truncf .bf16 (mulf a (broadcastTo S64x1024 inv broadcasts_S1x1024_S64x1024)) bitsLt_bf16_f32) xb
      (constant S64x512 .f32 0x00000000#32))
    (mulf
      (broadcastTo S64x512
        (shapeCast S64x1 (multiReduction .add [1] S64 a 0x00000000#32 reduces_S64x1024_S64 (.inl rfl) rfl) shapeCasts_S64_S64x1)
        broadcasts_S64x1_S64x512)
      (shapeCast S64x512 c shapeCasts_S64x512_S64x512))

/-- The sums of squares of the 64 clusters, one to a row. -/
def rowSq (v : FVec F S64x512 .f32) : FVec F S64x1 .f32 :=
  shapeCast S64x1 (multiReduction .add [1] S64 (mulf v v) 0x00000000#32 reduces_S64x512_S64 (.inl rfl) rfl) shapeCasts_S64_S64x1

/-- Every cluster normalised over its channels. -/
def rowNorm (v : FVec F S64x512 .f32) : FVec F S64x512 .f32 :=
  mulf v (broadcastTo S64x512
    (rsqrt (maximumf (rowSq v) (broadcast S64x1 (Named.named κ "eps2" 0x179ABE15#32 : F .f32)))) broadcasts_S64x1_S64x512)

/-- The whole image normalised over clusters and channels. -/
def allNorm (v : FVec F S64x512 .f32) : FVec F S64x512 .f32 :=
  mulf v (broadcastTo S64x512
    (rsqrt (maximumf
      (shapeCast S1x1 (multiReduction .add [0] S1 (rowSq v) 0x00000000#32 reduces_S64x1_S1 (.inl rfl) rfl) shapeCasts_S1_S1x1)
      (broadcast S1x1 (Named.named κ "eps2" 0x179ABE15#32 : F .f32)))) broadcasts_S1x1_S64x512)

/-- One image's residuals, from the image and the blocks that every image shares. -/
def imgResid (x : Vec F S512x1024 .f32) (w : Vec F S80x512 .bf16) (b : Vec F S80x1 .f32) (c : Vec F S64x512 .f32) :
    FVec F S64x512 .f32 :=
  resid (narrow x) (pixInv (acc8 x)) (assign (expo (narrow x) (pixInv (acc8 x)) w b)) c

/-- One image's result. -/
def image (x : Vec F S512x1024 .f32) (w : Vec F S80x512 .bf16) (b : Vec F S80x1 .f32) (c : Vec F S64x512 .f32) :
    FVec F S64x512 .f32 :=
  allNorm (rowNorm (imgResid x w b c))

/-- What one image's store writes: its result as a slab of the output block. -/
def slabOut (x0 : Vec F S1x512x1024 .f32) (x1 : Vec F S80x512 .bf16) (x2 : Vec F S80x1 .f32) (x3 : Vec F S64x512 .f32) :
    FVec F S1x64x512 .f32 :=
  shapeCast S1x64x512
    (image (shapeCast S512x1024 x0 squeezes_S1x512x1024_S512x1024.numel_eq) (View.ld x1 r0_17) (View.ld x2 r0_18) (View.ld x3 r0_19))
    shapeCasts_S64x512_S1x64x512

/-- The output block of one grid point: the eight images of its input block, one slab each. -/
theorem out_eq (x0 : Vec F S8x512x1024 .f32) (x1 : Vec F S80x512 .bf16) (x2 : Vec F S80x1 .f32) (x3 : Vec F S64x512 .f32) :
    out0_4 x0 x1 x2 x3 = View.canon [⟨r0_34, slabOut (View.ld x0 r0_33) x1 x2 x3⟩, ⟨r0_32, slabOut (View.ld x0 r0_31) x1 x2 x3⟩,
      ⟨r0_30, slabOut (View.ld x0 r0_29) x1 x2 x3⟩, ⟨r0_28, slabOut (View.ld x0 r0_27) x1 x2 x3⟩,
      ⟨r0_26, slabOut (View.ld x0 r0_25) x1 x2 x3⟩, ⟨r0_24, slabOut (View.ld x0 r0_23) x1 x2 x3⟩,
      ⟨r0_22, slabOut (View.ld x0 r0_21) x1 x2 x3⟩, ⟨r0_20, slabOut (View.ld x0 r0_0) x1 x2 x3⟩] := rfl

end Cert.KernelIdeal.Image

end
-- ==== Proof.Spec.lean ====
/-
  The mathematics of one image, over the extended reals and naming no program: what the kernel computes from an image's
  512 × 1024 values (`kOut`), what the reference computes from them (`rOut`), and that the two agree (`kOut_eq_rOut`)
  when the assignment's weights and biases are finite. Nothing is asked of the image or of the centroids.
-/
module

public import Idealize.ShloMosaic.PureOps.Ideal.Laws
public import Idealize.ShloMosaic.Init

@[expose] public section

noncomputable section

namespace Cert.Spec

open Idealize.ShloMosaic

/-- The floor of the norms: the float nearest to `1e-12`. -/
def eps : ℝ := 2305843 / 2305843009213693952

/-- The floor is positive. -/
theorem eps_pos : 0 < eps := by unfold eps; norm_num

/-! ## One norm -/

/-- `1 / max (√s, ε)` as the kernel spells it: the reciprocal square root of `max (s, ε²)`. -/
def inv (s : EReal) : EReal := Ideal.rsqrt (max s ((eps ^ 2 : ℝ) : EReal))

/-- `max (√s, ε)`, as the reference spells it. -/
def nrm (s : EReal) : EReal := max (Ideal.sqrt s) ((eps : ℝ) : EReal)

/-- A square is not negative, the infinities included. -/
theorem sq_nonneg (x : EReal) : 0 ≤ x * x := by
  induction x with
  | bot => simp
  | top => simp
  | coe r => exact_mod_cast mul_self_nonneg r

/-- A sum of squares is not negative. -/
theorem sum_sq_nonneg {ι : Type*} (s : Finset ι) (f : ι → EReal) : 0 ≤ ∑ i ∈ s, f i * f i :=
  Finset.sum_nonneg fun i _ => sq_nonneg (f i)

/-- The larger of two reals, taken among the extended reals. -/
theorem coe_max' (a b : ℝ) : ((max a b : ℝ) : EReal) = max (a : EReal) (b : EReal) :=
  EReal.coe_strictMono.monotone.map_max

/-- The two spellings of one norm are inverse to each other. -/
theorem inv_eq {s : EReal} (hs : 0 ≤ s) : inv s = (nrm s)⁻¹ := by
  induction s with
  | bot => simp at hs
  | top => simp [inv, nrm]
  | coe r =>
    have hr : 0 ≤ r := by exact_mod_cast hs
    have he := eps_pos
    have hp : 0 < max r (eps ^ 2) := lt_max_of_lt_right (by positivity)
    have h1 : Real.sqrt (max r (eps ^ 2)) = max (Real.sqrt r) eps := by
      rw [Real.sqrt_monotone.map_max, Real.sqrt_sq he.le]
    unfold inv nrm
    rw [← coe_max', Ideal.rsqrt_coe, if_neg (not_lt.2 hp.le), if_neg hp.ne', h1, Ideal.sqrt_coe,
      if_neg (not_lt.2 hr), ← coe_max', EReal.coe_inv]

/-- A floored norm is never zero. -/
theorem nrm_ne_zero (s : EReal) : nrm s ≠ 0 := by
  have : (0 : EReal) < nrm s := lt_max_of_lt_right (by exact_mod_cast eps_pos)
  exact this.ne'

/-- Dividing by the norm is multiplying by the kernel's reciprocal. -/
theorem div_nrm (x : EReal) {s : EReal} (hs : 0 ≤ s) : Ideal.div x (nrm s) = x * inv s := by
  rw [Ideal.div, if_neg (nrm_ne_zero s), inv_eq hs]

/-! ## The two computations -/

/-- Pixel `p`'s sum of squares over the channels. -/
def ssq (X : Fin 512 → Fin 1024 → EReal) (p : Fin 1024) : EReal := ∑ c, X c p * X c p

/-- The kernel's logits: the contraction first, then the pixel's norm, then the bias. -/
def kLogit (X : Fin 512 → Fin 1024 → EReal) (W : Fin 80 → Fin 512 → EReal) (B : Fin 80 → EReal) (k : Fin 80) (p : Fin 1024) : EReal :=
  (∑ c, W k c * X c p) * inv (ssq X p) + B k

/-- The kernel's assignment of pixel `p` to cluster `k`: the exponential times the reciprocal of the sum of all of them. -/
def kA (X : Fin 512 → Fin 1024 → EReal) (W : Fin 80 → Fin 512 → EReal) (B : Fin 80 → EReal) (k : Fin 80) (p : Fin 1024) : EReal :=
  Ideal.exp (kLogit X W B k p) * Ideal.div 1 (∑ j, Ideal.exp (kLogit X W B j p))

/-- The kernel's residuals of cluster `k`. -/
def kVlad (X : Fin 512 → Fin 1024 → EReal) (W : Fin 80 → Fin 512 → EReal) (B : Fin 80 → EReal) (C : Fin 64 → Fin 512 → EReal)
    (k : Fin 64) (c : Fin 512) : EReal :=
  (∑ p, (kA X W B (k.castLE (by decide)) p * inv (ssq X p)) * X c p) - (∑ p, kA X W B (k.castLE (by decide)) p) * C k c

/-- One normalisation over the channels, by the kernel's spelling. -/
def kRow (V : Fin 64 → Fin 512 → EReal) (k : Fin 64) (c : Fin 512) : EReal :=
  V k c * inv (∑ d, V k d * V k d)

/-- One normalisation over clusters and channels together, by the kernel's spelling. -/
def kAll (V : Fin 64 → Fin 512 → EReal) (k : Fin 64) (c : Fin 512) : EReal :=
  V k c * inv (∑ j, ∑ d, V j d * V j d)

/-- What the kernel stores for one image. -/
def kOut (X : Fin 512 → Fin 1024 → EReal) (W : Fin 80 → Fin 512 → EReal) (B : Fin 80 → EReal) (C : Fin 64 → Fin 512 → EReal) :
    Fin 64 → Fin 512 → EReal :=
  kAll (kRow (kVlad X W B C))

/-- The reference's normalised pixel. -/
def rX (X : Fin 512 → Fin 1024 → EReal) (c : Fin 512) (p : Fin 1024) : EReal := Ideal.div (X c p) (nrm (ssq X p))

/-- The reference's logits. -/
def rLogit (X : Fin 512 → Fin 1024 → EReal) (w : Fin 66 → Fin 512 → EReal) (b : Fin 66 → EReal) (k : Fin 66) (p : Fin 1024) : EReal :=
  (∑ c, w k c * rX X c p) + b k

/-- The reference's assignment of pixel `p` to cluster `k`: the softmax, shifted by `M p`. -/
def rA (X : Fin 512 → Fin 1024 → EReal) (w : Fin 66 → Fin 512 → EReal) (b : Fin 66 → EReal) (M : Fin 1024 → EReal)
    (k : Fin 66) (p : Fin 1024) : EReal :=
  Ideal.div (Ideal.exp (rLogit X w b k p - M p)) (∑ j, Ideal.exp (rLogit X w b j p - M p))

/-- The reference's residuals of cluster `k`, ghost clusters too. -/
def rVlad (X : Fin 512 → Fin 1024 → EReal) (w : Fin 66 → Fin 512 → EReal) (b : Fin 66 → EReal) (M : Fin 1024 → EReal)
    (C : Fin 66 → Fin 512 → EReal) (k : Fin 66) (c : Fin 512) : EReal :=
  (∑ p, rA X w b M k p * rX X c p) - (∑ p, rA X w b M k p) * C k c

/-- One normalisation over the channels, by the reference's spelling. -/
def rRow (V : Fin 64 → Fin 512 → EReal) (k : Fin 64) (c : Fin 512) : EReal :=
  Ideal.div (V k c) (nrm (∑ d, V k d * V k d))

/-- One normalisation over clusters and channels together, by the reference's spelling. -/
def rAll (V : Fin 64 → Fin 512 → EReal) (k : Fin 64) (c : Fin 512) : EReal :=
  Ideal.div (V k c) (nrm (∑ j, ∑ d, V j d * V j d))

/-- What the reference computes for one image, the softmax shifted by `M`. -/
def rOut (X : Fin 512 → Fin 1024 → EReal) (w : Fin 66 → Fin 512 → EReal) (b : Fin 66 → EReal) (M : Fin 1024 → EReal)
    (C : Fin 66 → Fin 512 → EReal) : Fin 64 → Fin 512 → EReal :=
  rAll (rRow fun k => rVlad X w b M C (k.castLE (by decide)))

/-- The weights with the kernel's rows of padding. -/
def padW (w : Fin 66 → Fin 512 → EReal) (k : Fin 80) (c : Fin 512) : EReal := if h : (k : ℕ) < 66 then w ⟨k, h⟩ c else 0

/-- The biases with the kernel's rows of padding. -/
def padB (b : Fin 66 → EReal) (k : Fin 80) : EReal := if h : (k : ℕ) < 66 then b ⟨k, h⟩ else ⊥

/-! ## The equation -/

/-- A pixel whose sum of squares is finite has finite channels. -/
theorem exists_real_of_ssq {X : Fin 512 → Fin 1024 → EReal} {p : Fin 1024} (h : ssq X p ≠ ⊤) (c : Fin 512) :
    ∃ r : ℝ, X c p = r := by
  have hle : X c p * X c p ≤ ssq X p :=
    Finset.single_le_sum (f := fun c => X c p * X c p) (fun i _ => sq_nonneg (X i p)) (Finset.mem_univ c)
  have hx : X c p * X c p ≠ ⊤ := fun h' => h (top_le_iff.1 (h' ▸ hle))
  generalize X c p = x at hx
  induction x with
  | bot => simp at hx
  | top => simp at hx
  | coe r => exact ⟨r, rfl⟩

/-- The reciprocal root of an infinite sum is zero. -/
theorem inv_top : inv ⊤ = 0 := by simp [inv]

/-- The floored reciprocal root of a sum of squares is a real. -/
theorem exists_real_inv {s : EReal} (hs : 0 ≤ s) : ∃ r : ℝ, inv s = r := by
  induction s with
  | bot => simp at hs
  | top => exact ⟨0, by simp [inv_top]⟩
  | coe r =>
    have hp : 0 < max r (eps ^ 2) := lt_max_of_lt_right (by have := eps_pos; positivity)
    exact ⟨_, by rw [inv, ← coe_max', Ideal.rsqrt_coe, if_neg (not_lt.2 hp.le), if_neg hp.ne']⟩

/-- An exponential is not negative. -/
theorem exp_nonneg (l : EReal) : 0 ≤ Ideal.exp l := by
  induction l with
  | bot => simp
  | top => simp
  | coe r => rw [Ideal.exp_coe]; exact_mod_cast (Real.exp_pos r).le

/-- A pixel's sum of squares is not negative. -/
theorem ssq_nonneg (X : Fin 512 → Fin 1024 → EReal) (p : Fin 1024) : 0 ≤ ssq X p := sum_sq_nonneg _ _

/-- The reference's normalised pixel is the pixel times the kernel's reciprocal norm. -/
theorem rX_eq (X : Fin 512 → Fin 1024 → EReal) (c : Fin 512) (p : Fin 1024) : rX X c p = X c p * inv (ssq X p) :=
  div_nrm _ (ssq_nonneg X p)

/-- The finite sum of finite values is finite, and its value is theirs. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The contraction with finite weights, then the norm, is the contraction of the normalised pixel, and it is finite. -/
theorem contract_eq (X : Fin 512 → Fin 1024 → EReal) (u : Fin 512 → ℝ) (p : Fin 1024) :
    ∃ r : ℝ, (∑ c, (u c : EReal) * X c p) * inv (ssq X p) = r ∧ (∑ c, (u c : EReal) * rX X c p) = r := by
  by_cases h : ssq X p = ⊤
  · refine ⟨0, ?_, ?_⟩
    · rw [h, inv_top, mul_zero]; rfl
    · simp [rX_eq, h, inv_top]
  · choose x hx using exists_real_of_ssq h
    obtain ⟨i, hi⟩ := exists_real_inv (ssq_nonneg X p)
    refine ⟨(∑ c, u c * x c) * i, ?_, ?_⟩
    · simp only [hx, hi, ← EReal.coe_mul, sum_coe]
    · simp only [rX_eq, hx, hi, ← EReal.coe_mul, sum_coe]
      rw [Finset.sum_mul]
      simp only [mul_assoc]

variable {X : Fin 512 → Fin 1024 → EReal} {w : Fin 66 → Fin 512 → EReal} {b : Fin 66 → EReal}

/-- The two logits of a cluster are one finite number and the bias. -/
theorem logit_eq (hw : ∀ k c, ∃ r : ℝ, w k c = r) (k : Fin 66) (p : Fin 1024) :
    ∃ r : ℝ, kLogit X (padW w) (padB b) (k.castLE (by decide)) p = r + b k ∧ rLogit X w b k p = r + b k := by
  choose u hu using hw k
  obtain ⟨r, h1, h2⟩ := contract_eq X u p
  refine ⟨r, ?_, ?_⟩
  · have hp : ∀ c, padW w (k.castLE (by decide)) c = u c := fun c => by
      rw [padW, dif_pos (by exact k.2)]; exact hu c
    have hq : padB b (k.castLE (by decide)) = b k := by rw [padB, dif_pos (by exact k.2)]; rfl
    rw [kLogit, hq, ← h1]
    simp only [hp]
  · rw [rLogit, ← h2]
    simp only [hu]

/-- A row of padding has logit `-∞`. -/
theorem logit_pad (k : Fin 80) (h : ¬ (k : ℕ) < 66) (p : Fin 1024) : kLogit X (padW w) (padB b) k p = ⊥ := by
  rw [kLogit, padB, dif_neg h, EReal.add_bot]

/-- A sum of 80 terms whose last 14 are zero. -/
theorem sum_pad (f : Fin 80 → EReal) (h : ∀ k : Fin 80, ¬ (k : ℕ) < 66 → f k = 0) :
    ∑ k, f k = ∑ k : Fin 66, f (k.castLE (by decide)) := by
  rw [show ∑ k, f k = ∑ k : Fin (66 + 14), f k from rfl, Fin.sum_univ_add]
  rw [Finset.sum_eq_zero (s := Finset.univ) (f := fun i : Fin 14 => f (Fin.natAdd 66 i)) fun i _ => h _ (by simp), add_zero]
  rfl

/-- The kernel's sum of exponentials is the sum over the clusters, of the reference's logits. -/
theorem sum_exp (hw : ∀ k c, ∃ r : ℝ, w k c = r) (p : Fin 1024) :
    ∑ j, Ideal.exp (kLogit X (padW w) (padB b) j p) = ∑ j, Ideal.exp (rLogit X w b j p) := by
  rw [sum_pad _ fun j hj => by rw [logit_pad j hj, Ideal.exp_bot]]
  refine Finset.sum_congr rfl fun j _ => ?_
  obtain ⟨r, h1, h2⟩ := logit_eq (X := X) (b := b) hw j p
  rw [h1, h2]

/-- The reference's shift at pixel `p`: the largest logit. -/
def rTop (X : Fin 512 → Fin 1024 → EReal) (w : Fin 66 → Fin 512 → EReal) (b : Fin 66 → EReal) (p : Fin 1024) : EReal :=
  Finset.univ.fold max ⊥ fun k => rLogit X w b k p

/-- No logit is larger than the shift. -/
theorem le_rTop (k : Fin 66) (p : Fin 1024) : rLogit X w b k p ≤ rTop X w b p :=
  Finset.le_sup (f := fun k => rLogit X w b k p) (Finset.mem_univ k)

/-- The shift is one of the logits. -/
theorem rTop_mem (p : Fin 1024) : ∃ k, rTop X w b p = rLogit X w b k p := by
  obtain ⟨k, -, hk⟩ := Finset.exists_mem_eq_sup Finset.univ Finset.univ_nonempty fun k => rLogit X w b k p
  exact ⟨k, hk⟩

/-- Of a number that is not `∞`: its exponential is a real that is not negative, and a shift by a real divides it. -/
theorem exp_shift {l : EReal} (hl : l ≠ ⊤) (μ : ℝ) :
    ∃ e : ℝ, 0 ≤ e ∧ (l ≠ ⊥ → 0 < e) ∧ Ideal.exp l = e ∧ Ideal.exp (l - μ) = ((e * (Real.exp μ)⁻¹ : ℝ) : EReal) := by
  induction l with
  | bot => exact ⟨0, le_rfl, fun h => absurd rfl h, by simp, by simp⟩
  | top => exact absurd rfl hl
  | coe r =>
    exact ⟨Real.exp r, (Real.exp_pos r).le, fun _ => Real.exp_pos r, Ideal.exp_coe r, by
      rw [← EReal.coe_sub, Ideal.exp_coe, Real.exp_sub, div_eq_mul_inv]⟩

/-- The two assignments agree where no bias is `∞` and one is not `-∞`. -/
theorem assign_eq (hw : ∀ k c, ∃ r : ℝ, w k c = r) (hb : ∀ k, b k ≠ ⊤) (hb' : ∃ k, b k ≠ ⊥) (k : Fin 66) (p : Fin 1024) :
    kA X (padW w) (padB b) (k.castLE (by decide)) p = rA X w b (rTop X w b) k p := by
  choose r hk hr using fun k => logit_eq (X := X) (b := b) hw k p
  have hne : ∀ k, rLogit X w b k p ≠ ⊤ := fun k => by
    rw [hr]; exact EReal.add_ne_top (EReal.coe_ne_top _) (hb k)
  obtain ⟨k₀, hk₀⟩ := hb'
  have hbot : rLogit X w b k₀ p ≠ ⊥ := by
    rw [hr]; exact EReal.add_ne_bot_iff.2 ⟨EReal.coe_ne_bot _, hk₀⟩
  obtain ⟨μ, hμ⟩ : ∃ μ : ℝ, rTop X w b p = μ := by
    obtain ⟨k₁, h₁⟩ := rTop_mem (X := X) (w := w) (b := b) p
    refine ⟨(rTop X w b p).toReal, (EReal.coe_toReal (h₁ ▸ hne k₁) fun h => hbot ?_).symm⟩
    exact le_bot_iff.1 (h ▸ le_rTop k₀ p)
  choose e h0 hpos he hs using fun k => exp_shift (hne k) μ
  have hS : (0 : ℝ) < ∑ j, e j := Finset.sum_pos' (fun j _ => h0 j) ⟨k₀, Finset.mem_univ _, hpos k₀ hbot⟩
  have hE := Real.exp_pos μ
  have hT : (0 : ℝ) < ∑ j, e j * (Real.exp μ)⁻¹ := by rw [← Finset.sum_mul]; positivity
  have h1 : kLogit X (padW w) (padB b) (k.castLE (by decide)) p = rLogit X w b k p := (hk k).trans (hr k).symm
  rw [kA, rA, sum_exp hw, h1, hμ]
  simp only [he, hs, sum_coe]
  rw [Ideal.div, Ideal.div, if_neg (by exact_mod_cast hS.ne'), if_neg (by exact_mod_cast hT.ne'), one_mul, ← EReal.coe_inv,
    ← EReal.coe_inv, ← EReal.coe_mul, ← EReal.coe_mul, ← Finset.sum_mul]
  congr 1
  field_simp

/-! Where a bias is `∞`, or all are `-∞`, the reference's assignments are all `-∞` and the kernel's are all zero. -/

/-- The reference's assignments where every shifted logit is `-∞`. -/
theorem rA_bot {M : Fin 1024 → EReal} {p : Fin 1024} (h : ∀ k, rLogit X w b k p - M p = ⊥) (k : Fin 66) : rA X w b M k p = ⊥ := by
  rw [rA]
  simp [h, Ideal.div]

/-- Both assignments where a bias is `∞`, or all are `-∞`. -/
theorem assign_deg (hw : ∀ k c, ∃ r : ℝ, w k c = r) (hb : (∃ k, b k = ⊤) ∨ ∀ k, b k = ⊥) (k : Fin 66) (p : Fin 1024) :
    kA X (padW w) (padB b) (k.castLE (by decide)) p = 0 ∧ rA X w b (rTop X w b) k p = ⊥ := by
  choose r hk hr using fun k => logit_eq (X := X) (b := b) hw k p
  rcases hb with ⟨k₀, hk₀⟩ | hb
  · have hl : rLogit X w b k₀ p = ⊤ := by rw [hr, hk₀]; exact EReal.coe_add_top _
    have ht : rTop X w b p = ⊤ := top_le_iff.1 (hl ▸ le_rTop k₀ p)
    refine ⟨?_, rA_bot (fun j => by rw [ht, sub_eq_add_neg, EReal.neg_top, EReal.add_bot]) k⟩
    have hs : ∑ j, Ideal.exp (rLogit X w b j p) = ⊤ := by
      refine top_le_iff.1 (le_trans ?_ (Finset.single_le_sum (f := fun j => Ideal.exp (rLogit X w b j p)) (fun j _ => ?_) (Finset.mem_univ k₀)))
      · simp [hl]
      · exact exp_nonneg _
    rw [kA, sum_exp hw, hs]
    simp [Ideal.div]
  · have hl : ∀ j, rLogit X w b j p = ⊥ := fun j => by rw [hr, hb, EReal.add_bot]
    refine ⟨?_, rA_bot (fun j => by rw [hl, sub_eq_add_neg, EReal.bot_add]) k⟩
    rw [kA, hk, hb, EReal.add_bot, Ideal.exp_bot, zero_mul]

/-- A value that is zero or infinite. -/
def Deg (v : EReal) : Prop := v = 0 ∨ v = ⊥ ∨ v = ⊤

/-- `-∞` times anything is zero or infinite. -/
theorem deg_bot_mul (x : EReal) : Deg (⊥ * x) := by
  rcases lt_trichotomy x 0 with h | h | h
  · exact .inr (.inr (EReal.bot_mul_of_neg h))
  · exact .inl (by rw [h, mul_zero])
  · exact .inr (.inl (EReal.bot_mul_of_pos h))

/-- Sums of such values are such values. -/
theorem Deg.add {u v : EReal} (hu : Deg u) (hv : Deg v) : Deg (u + v) := by
  rcases hu with rfl | rfl | rfl <;> rcases hv with rfl | rfl | rfl <;> simp [Deg]

/-- The negative of such a value is one. -/
theorem Deg.neg {u : EReal} (hu : Deg u) : Deg (-u) := by
  rcases hu with rfl | rfl | rfl <;> simp [Deg]

/-- Finite sums of such values are such values. -/
theorem Deg.sum {ι : Type*} (s : Finset ι) (f : ι → EReal) (h : ∀ i, Deg (f i)) : Deg (∑ i ∈ s, f i) := by
  classical
  induction s using Finset.induction_on with
  | empty => exact .inl rfl
  | insert a s ha ih => rw [Finset.sum_insert ha]; exact (h a).add ih

/-- The normalisation of rows of such values is zero. -/
theorem row_deg {V : Fin 64 → Fin 512 → EReal} (h : ∀ k c, Deg (V k c)) : kRow V = 0 := by
  funext k c
  rw [kRow]
  by_cases h0 : V k c = 0
  · rw [h0, zero_mul]; rfl
  · have hs : V k c * V k c = ⊤ := by
      rcases h k c with h | h | h
      · exact absurd h h0
      · rw [h]; rfl
      · rw [h]; rfl
    have ht : ∑ d, V k d * V k d = ⊤ :=
      top_le_iff.1 (hs ▸ Finset.single_le_sum (f := fun d => V k d * V k d) (fun d _ => sq_nonneg (V k d)) (Finset.mem_univ c))
    rw [ht, inv_top, mul_zero]; rfl

/-- Where the assignments are all `-∞` on the one side and all zero on the other, the normalised residuals agree: both are zero. -/
theorem row_deg_eq (hw : ∀ k c, ∃ r : ℝ, w k c = r) (hb : (∃ k, b k = ⊤) ∨ ∀ k, b k = ⊥) {C : Fin 64 → Fin 512 → EReal}
    {C' : Fin 66 → Fin 512 → EReal} :
    kRow (kVlad X (padW w) (padB b) C) = kRow fun k => rVlad X w b (rTop X w b) C' (k.castLE (by decide)) := by
  rw [row_deg, row_deg]
  · intro k c
    rw [rVlad, sub_eq_add_neg]
    simp only [(assign_deg hw hb _ _).2]
    refine (Deg.sum _ _ fun p => deg_bot_mul _).add (Deg.neg ?_)
    rcases Deg.sum Finset.univ (fun _ : Fin 1024 => (⊥ : EReal)) (fun _ => .inr (.inl rfl)) with h | h | h
    · rw [h, zero_mul]; exact .inl rfl
    · rw [h]; exact deg_bot_mul _
    · rw [h, ← EReal.neg_bot, neg_mul]; exact (deg_bot_mul _).neg
  · intro k c
    have ha : ∀ p, kA X (padW w) (padB b) (k.castLE (by decide)) p = 0 := fun p => (assign_deg hw hb (k.castLE (by decide)) p).1
    refine .inl ?_
    rw [kVlad]
    simp [ha]

/-- The residuals agree where no bias is `∞` and one is not `-∞`. -/
theorem vlad_eq (hw : ∀ k c, ∃ r : ℝ, w k c = r) (hb : ∀ k, b k ≠ ⊤) (hb' : ∃ k, b k ≠ ⊥) {C : Fin 64 → Fin 512 → EReal}
    {C' : Fin 66 → Fin 512 → EReal} (hC : ∀ k c, C k c = C' (k.castLE (by decide)) c) (k : Fin 64) (c : Fin 512) :
    kVlad X (padW w) (padB b) C k c = rVlad X w b (rTop X w b) C' (k.castLE (by decide)) c := by
  have ha : ∀ p, kA X (padW w) (padB b) (k.castLE (by decide)) p = rA X w b (rTop X w b) (k.castLE (by decide)) p := fun p =>
    assign_eq hw hb hb' (k.castLE (by decide)) p
  rw [kVlad, rVlad, hC]
  simp only [ha, rX_eq]
  simp only [mul_assoc, mul_comm (inv _)]

/-- The two spellings of the normalisation over the channels agree. -/
theorem row_eq (V : Fin 64 → Fin 512 → EReal) : kRow V = rRow V := by
  funext k c
  rw [kRow, rRow, div_nrm _ (sum_sq_nonneg _ _)]

/-- The two spellings of the normalisation over clusters and channels agree, the order of the sums included. -/
theorem all_eq (V : Fin 64 → Fin 512 → EReal) : kAll V = rAll V := by
  funext k c
  rw [kAll, rAll, div_nrm _ (Finset.sum_nonneg fun j _ => sum_sq_nonneg _ _)]

/-- A sum over `m n` terms, taken `n` at a time. -/
theorem sum_split {m n : ℕ} (f : Fin (m * n) → EReal) : ∑ c, f c = ∑ i : Fin m, ∑ j : Fin n, f (finProdFinEquiv (i, j)) := by
  rw [← Fintype.sum_prod_type', ← finProdFinEquiv.sum_comp]

/-- One image's results agree: the kernel's, on padded weights and biases and the first 64 centroids, and the reference's. -/
theorem kOut_eq_rOut (hw : ∀ k c, ∃ r : ℝ, w k c = r) {C : Fin 64 → Fin 512 → EReal} {C' : Fin 66 → Fin 512 → EReal}
    (hC : ∀ k c, C k c = C' (k.castLE (by decide)) c) :
    kOut X (padW w) (padB b) C = rOut X w b (rTop X w b) C' := by
  rw [kOut, rOut, ← row_eq, ← all_eq]
  congr 1
  by_cases hb : (∃ k, b k = ⊤) ∨ ∀ k, b k = ⊥
  · exact row_deg_eq hw hb
  · push Not at hb
    congr 1
    funext k c
    exact vlad_eq hw hb.1 hb.2 hC k c

end Cert.Spec

end
-- ==== Proof.Values.lean ====
/-
  The kernel's one-image function (Image.lean) read at an index at `Ideal`: it is `Spec.kOut` of the image's values
  (`image_apply`).
-/
module

public import proofs.«01_k».proof.Proof.Image
public import proofs.«01_k».proof.Proof.Spec
public import Idealize.ShloMosaic.Lib.Pointwise
public import Idealize.ShloMosaic.Lib.Pipeline.Value

@[expose] public section

noncomputable section

namespace Cert.KernelIdeal.Image

open Idealize.ShloMosaic Cert.KernelIdeal.Gen

/-- The named constant is the square of the reference's floor. -/
theorem named_eps2 : (Named.named κ "eps2" 0x179ABE15#32 : Ideal .f32) = ((Spec.eps ^ 2 : ℝ) : EReal) := by
  have h : (Named.named κ "eps2" 0x179ABE15#32 : Ideal .f32)
      = ((5316911940649 / 5316911983139663491615228241121378304 : ℝ) : EReal) := rfl
  rw [h, Spec.eps]
  norm_num

/-- Chunk `n` of the image: its channels `32 n` to `32 n + 31`. -/
def chunk (x : Vec Ideal S512x1024 .f32) (n : Fin 16) : Vec Ideal S32x1024 .f32 := fun i =>
  x (ix2 ⟨32 * n.val + (i 0).val, by have h1 := n.2; have h2 : (i 0).val < 32 := (i 0).2; omega⟩ (i 1))

/-- A load of 32 rows from row `32 n` on is chunk `n`. -/
theorem ld_chunk (x : Vec Ideal S512x1024 .f32) (n : Fin 16) (inb : ∀ a, (![32 * n.val, 0] : Fin 2 → ℕ) a + S32x1024.size a ≤ S512x1024.size a) :
    View.ld x (Rect.unit (s := S512x1024) ![32 * n.val, 0] S32x1024.size inb) = chunk x n := by
  funext i
  refine congrArg x ?_
  funext a
  refine a.cases ?_ fun a => a.cases ?_ fun a => a.elim0
  · ext; simp [chunk, ix2]
  · ext; simp [chunk, ix2]

/-- The sixteen loads, by number. -/
def loads (x : Vec Ideal S512x1024 .f32) : Fin 16 → Vec Ideal S32x1024 .f32 :=
  ![View.ld x r0_1, View.ld x r0_2, View.ld x r0_3, View.ld x r0_4, View.ld x r0_5, View.ld x r0_6, View.ld x r0_7, View.ld x r0_8,
    View.ld x r0_9, View.ld x r0_10, View.ld x r0_11, View.ld x r0_12, View.ld x r0_13, View.ld x r0_14, View.ld x r0_15, View.ld x r0_16]

/-- Load `n` is chunk `n`. -/
theorem loads_eq (x : Vec Ideal S512x1024 .f32) (n : Fin 16) : loads x n = chunk x n := by
  fin_cases n
  · exact ld_chunk x 0 _
  · exact ld_chunk x 1 _
  · exact ld_chunk x 2 _
  · exact ld_chunk x 3 _
  · exact ld_chunk x 4 _
  · exact ld_chunk x 5 _
  · exact ld_chunk x 6 _
  · exact ld_chunk x 7 _
  · exact ld_chunk x 8 _
  · exact ld_chunk x 9 _
  · exact ld_chunk x 10 _
  · exact ld_chunk x 11 _
  · exact ld_chunk x 12 _
  · exact ld_chunk x 13 _
  · exact ld_chunk x 14 _
  · exact ld_chunk x 15 _

/-- The narrowed image is the image: casts are the identity, and the chunks are laid end to end. -/
theorem narrow_apply (x : Vec Ideal S512x1024 .f32) (c : Fin 512) (p : Fin 1024) : narrow x (ix2 c p) = x (ix2 c p) := by
  have hc := c.2
  refine (concatenate_ofFn_apply (t := S512x1024) (s₁ := S32x1024) 0 (fun n => cast32 (loads x n)) _ rfl 32 rfl (ix2 c p)
    ⟨c.val / 32, by omega⟩ rfl (ix2 ⟨c.val % 32, Nat.mod_lt _ (by decide)⟩ p) rfl ?_).trans ?_
  · intro b hb
    refine b.cases (fun h => absurd rfl h) (fun b => b.cases (fun _ => rfl) fun b => b.elim0) hb
  · rw [loads_eq]
    unfold cast32
    pointwise
    unfold chunk
    congr 2
    ext
    exact Nat.div_add_mod _ _

/-- A sum over the 512 channels, in the order in which the kernel takes it. -/
theorem sum_channels (f : Fin 512 → EReal) :
    ∑ c, f c = ∑ r : Fin 8, ∑ n : Fin 16, ∑ j : Fin 4, f ⟨32 * n.val + (8 * j.val + r.val), by omega⟩ := by
  rw [Finset.sum_comm, Spec.sum_split (m := 16) (n := 32) f]
  refine Finset.sum_congr rfl fun n _ => ?_
  rw [Finset.sum_comm, Spec.sum_split (m := 4) (n := 8)]
  refine Finset.sum_congr rfl fun j _ => Finset.sum_congr rfl fun r _ => congrArg f (Fin.ext ?_)
  simp [finProdFinEquiv]
  omega

/-- A chunk's squares, added up in eighths: row `r` holds the rows `8 j + r`. -/
theorem sq8_apply (v : Vec Ideal S32x1024 .f32) (r : Fin 8) (p : Fin 1024) :
    sq8 v (ix2 r p) = ∑ j : Fin 4, v (ix2 ⟨8 * j.val + r.val, by omega⟩ p) * v (ix2 ⟨8 * j.val + r.val, by omega⟩ p) := by
  unfold sq8
  pointwise
  simp only [Fin.sum_univ_four, add_assoc]
  congr! <;> simp

/-- The accumulated squares at row `r`: over all chunks, the channels that leave `r` modulo eight. -/
theorem acc8_apply (x : Vec Ideal S512x1024 .f32) (r : Fin 8) (p : Fin 1024) :
    acc8 x (ix2 r p) = ∑ n : Fin 16, sq8 (chunk x n) (ix2 r p) := by
  simp only [← loads_eq, Fin.sum_univ_castSucc, Fin.sum_univ_zero, zero_add]
  rfl

/-- Every pixel's reciprocal norm. -/
theorem pixInv_apply (x : Vec Ideal S512x1024 .f32) (p : Fin 1024) :
    pixInv (acc8 x) (ix2 0 p) = Spec.inv (Spec.ssq (fun c p => x (ix2 c p)) p) := by
  unfold pixInv
  pointwise
  rw [named_eps2, Spec.inv, Spec.ssq, sum_channels]
  congr 2
  refine Finset.sum_congr rfl fun r _ => ?_
  rw [acc8_apply]
  refine Finset.sum_congr rfl fun n _ => ?_
  rw [sq8_apply]
  rfl

/-- The exponential of a logit, at cluster `k` and pixel `p`. -/
theorem expo_apply (xb : FVec Ideal S512x1024 .bf16) (inv : FVec Ideal S1x1024 .f32) (w : Vec Ideal S80x512 .bf16)
    (b : Vec Ideal S80x1 .f32) (k : Fin 80) (p : Fin 1024) :
    expo xb inv w b (ix2 k p) = Ideal.exp ((∑ c, w (ix2 k c) * xb (ix2 c p)) * inv (ix2 0 p) + b (ix2 k 0)) := by
  unfold expo
  pointwise

/-- The assignment: the exponential over the sum over all the rows, the padding included. -/
theorem assign_apply (e : FVec Ideal S80x1024 .f32) (k : Fin 64) (p : Fin 1024) :
    assign e (ix2 k p) = e (ix2 (k.castLE (by decide)) p) * Ideal.div 1 (∑ j, e (ix2 j p)) := by
  unfold assign
  pointwise
  rfl

/-- The residual of cluster `k` at channel `c`. -/
theorem resid_apply (xb : FVec Ideal S512x1024 .bf16) (inv : FVec Ideal S1x1024 .f32) (a : FVec Ideal S64x1024 .f32)
    (c : Vec Ideal S64x512 .f32) (k : Fin 64) (d : Fin 512) :
    resid xb inv a c (ix2 k d) = ∑ p, a (ix2 k p) * inv (ix2 0 p) * xb (ix2 d p) - (∑ p, a (ix2 k p)) * c (ix2 k d) := by
  unfold resid
  pointwise

/-- The normalisation over the channels. -/
theorem rowNorm_apply (v : FVec Ideal S64x512 .f32) (k : Fin 64) (c : Fin 512) :
    rowNorm v (ix2 k c) = Spec.kRow (fun k c => v (ix2 k c)) k c := by
  unfold rowNorm rowSq
  pointwise
  rw [named_eps2]
  rfl

/-- The normalisation over clusters and channels. -/
theorem allNorm_apply (v : FVec Ideal S64x512 .f32) (k : Fin 64) (c : Fin 512) :
    allNorm v (ix2 k c) = Spec.kAll (fun k c => v (ix2 k c)) k c := by
  unfold allNorm rowSq
  pointwise
  rw [named_eps2]
  rfl

/-- One image's residuals are `Spec.kVlad` of its values. -/
theorem imgResid_apply (x : Vec Ideal S512x1024 .f32) (w : Vec Ideal S80x512 .bf16) (b : Vec Ideal S80x1 .f32)
    (c : Vec Ideal S64x512 .f32) (k : Fin 64) (d : Fin 512) :
    imgResid x w b c (ix2 k d)
      = Spec.kVlad (fun c p => x (ix2 c p)) (fun k c => w (ix2 k c)) (fun k => b (ix2 k 0)) (fun k d => c (ix2 k d)) k d := by
  unfold imgResid
  simp only [resid_apply, assign_apply, expo_apply, narrow_apply, pixInv_apply]
  rfl

/-- One image's result is `Spec.kOut` of its values. -/
theorem image_apply (x : Vec Ideal S512x1024 .f32) (w : Vec Ideal S80x512 .bf16) (b : Vec Ideal S80x1 .f32)
    (c : Vec Ideal S64x512 .f32) (k : Fin 64) (d : Fin 512) :
    image x w b c (ix2 k d)
      = Spec.kOut (fun c p => x (ix2 c p)) (fun k c => w (ix2 k c)) (fun k => b (ix2 k 0)) (fun k d => c (ix2 k d)) k d := by
  unfold image
  simp only [allNorm_apply, rowNorm_apply, imgResid_apply]
  rfl

end Cert.KernelIdeal.Image

end
-- ==== Proof.Block.lean ====
/-
  The output block of one grid point read at an index: image `i` of the block is `Spec.kOut` of image `i` of the input
  block and of the three blocks that every image shares (`block_apply`).
-/
module

public import proofs.«01_k».proof.Proof.Values
public import Idealize.ShloMosaic.Lib.Pipeline.ValueKit.Tiles
public import Idealize.ShloMosaic.Lib.Pipeline.ValueKit.Acc

@[expose] public section

noncomputable section

namespace Cert.KernelIdeal.Image

open Idealize.ShloMosaic Cert.KernelIdeal.Gen

/-- The block's value at an index, from the four input blocks. -/
def blockVal (x0 : Vec Ideal S8x512x1024 .f32) (x1 : Vec Ideal S80x512 .bf16) (x2 : Vec Ideal S80x1 .f32) (x3 : Vec Ideal S64x512 .f32)
    (i : Fin 8) (k : Fin 64) (d : Fin 512) : EReal :=
  Spec.kOut (fun c p => x0 (ix3 i c p)) (fun k c => x1 (ix2 k c)) (fun k => x2 (ix2 k 0)) (fun k d => x3 (ix2 k d)) k d

/-- One image's slab at an index, from the image's own slab of the input block. -/
theorem slabOut_apply (x : Vec Ideal S1x512x1024 .f32) (x1 : Vec Ideal S80x512 .bf16) (x2 : Vec Ideal S80x1 .f32)
    (x3 : Vec Ideal S64x512 .f32) (k : Fin 64) (d : Fin 512) :
    slabOut x x1 x2 x3 (ix3 0 k d)
      = Spec.kOut (fun c p => x (ix3 0 c p)) (fun k c => x1 (ix2 k c)) (fun k => x2 (ix2 k 0)) (fun k d => x3 (ix2 k d)) k d := by
  have hx : ∀ (c : Fin 512) (p : Fin 1024),
      shapeCast S512x1024 x squeezes_S1x512x1024_S512x1024.numel_eq (ix2 c p) = x (ix3 0 c p) := fun c p => by pointwise
  have h1 : View.ld x1 r0_17 = x1 := View.ld_unit_lit _ _ (by decide)
  have h2 : View.ld x2 r0_18 = x2 := View.ld_unit_lit _ _ (by decide)
  have h3 : View.ld x3 r0_19 = x3 := View.ld_unit_lit _ _ (by decide)
  unfold slabOut
  rw [h1, h2, h3]
  pointwise
  rw [image_apply]
  simp only [hx]

/-- The load of image `o` of the block, at an index. -/
theorem ld_image (o : Fin 8) (x0 : Vec Ideal S8x512x1024 .f32)
    (inb : ∀ a, (![o.val, 0, 0] : Fin 3 → ℕ) a + S1x512x1024.size a ≤ S8x512x1024.size a) (c : Fin 512) (p : Fin 1024) :
    View.ld x0 (Rect.unit (s := S8x512x1024) ![o.val, 0, 0] S1x512x1024.size inb) (ix3 0 c p) = x0 (ix3 o c p) := by
  refine View.ld_unit_apply_of _ _ _ _ _ _ fun a => ?_
  refine a.cases ?_ fun a => a.cases ?_ fun a => a.cases ?_ fun a => a.elim0 <;> simp [ix3]

/-- The slab that the store of image `o` writes, at its index `j`, is the block's value at the index `y` that the store puts it at. -/
theorem slab_at (o : Fin 8) (x0 : Vec Ideal S8x512x1024 .f32) (x1 : Vec Ideal S80x512 .bf16) (x2 : Vec Ideal S80x1 .f32)
    (x3 : Vec Ideal S64x512 .f32) (inb : ∀ a, (![o.val, 0, 0] : Fin 3 → ℕ) a + S1x512x1024.size a ≤ S8x512x1024.size a)
    (y : S8x64x512.Idx) (j : S1x64x512.Idx) (h0 : (y 0).val = o.val + (j 0).val) (h1 : (y 1).val = (j 1).val)
    (h2 : (y 2).val = (j 2).val) :
    slabOut (View.ld x0 (Rect.unit (s := S8x512x1024) ![o.val, 0, 0] S1x512x1024.size inb)) x1 x2 x3 j
      = blockVal x0 x1 x2 x3 (y 0) (y 1) (y 2) := by
  have hj : j 0 = (0 : Fin 1) := Subsingleton.elim (α := Fin 1) _ _
  have e0 : y 0 = o := Fin.ext (by rw [h0, hj]; rfl)
  have e1 : y 1 = j 1 := Fin.ext h1
  have e2 : y 2 = j 2 := Fin.ext h2
  have ej : j = ix3 0 (j 1) (j 2) := by
    funext a
    refine a.cases hj fun a => a.cases rfl fun a => a.cases rfl fun a => a.elim0
  have key : ∀ (k : Fin 64) (d : Fin 512),
      slabOut (View.ld x0 (Rect.unit (s := S8x512x1024) ![o.val, 0, 0] S1x512x1024.size inb)) x1 x2 x3 (ix3 0 k d)
        = blockVal x0 x1 x2 x3 o k d := fun k d => by
    rw [slabOut_apply]
    exact congrArg (fun X => Spec.kOut X _ _ _ k d) (funext fun c => funext fun p => ld_image o x0 inb c p)
  rw [e0, e1, e2]
  exact (congrArg _ ej).trans (key (j 1) (j 2))

/-- The output block at an index. -/
theorem block_apply (x0 : Vec Ideal S8x512x1024 .f32) (x1 : Vec Ideal S80x512 .bf16) (x2 : Vec Ideal S80x1 .f32)
    (x3 : Vec Ideal S64x512 .f32) (y : S8x64x512.Idx) :
    out0_4 x0 x1 x2 x3 y = blockVal x0 x1 x2 x3 (y 0) (y 1) (y 2) := by
  rw [out_eq]
  canon_tiles j h
  · exact slab_at 7 x0 x1 x2 x3 _ y j h0 h1 h2
  · exact slab_at 6 x0 x1 x2 x3 _ y j h0 h1 h2
  · exact slab_at 5 x0 x1 x2 x3 _ y j h0 h1 h2
  · exact slab_at 4 x0 x1 x2 x3 _ y j h0 h1 h2
  · exact slab_at 3 x0 x1 x2 x3 _ y j h0 h1 h2
  · exact slab_at 2 x0 x1 x2 x3 _ y j h0 h1 h2
  · exact slab_at 1 x0 x1 x2 x3 _ y j h0 h1 h2
  · exact slab_at 0 x0 x1 x2 x3 _ y j (h0.trans (Nat.zero_add _).symm) h1 h2

end Cert.KernelIdeal.Image

end
-- ==== Proof.Array.lean ====
/-
  The kernel's result array: what the host hands to the region, at coordinates; the region's result, one image to each
  leading index; and the result of the whole program, the trailing reshape included (`result_apply`).
-/
module

public import proofs.«01_k».proof.Proof.Block
public import Idealize.ShloMosaic.Lib.Pipeline.ValueKit
public import Idealize.ShloMosaic.Lib.Claim

@[expose] public section

noncomputable section

namespace Cert.KernelIdeal.Array

open Cert.KernelIdeal.Image
open Idealize.ShloMosaic Idealize.ShloMosaic.TcCoe Idealize.SL.Sem Cert.KernelIdeal Cert.KernelIdeal.Gen

variable (m : (ℓ : Loc nD τ sig) → Buf (Elt Ideal) ℓ)

/-- The images. -/
abbrev arg0 (c : Dev nD) : FVec Ideal S64x512x32x32 .f32 := m ((c.tc : Thread nD τ).loc main_arg0)
/-- The weights. -/
abbrev arg1 (c : Dev nD) : FVec Ideal S66x512 .f32 := m ((c.tc : Thread nD τ).loc main_arg1)
/-- The bias. -/
abbrev arg2 (c : Dev nD) : FVec Ideal S66 .f32 := m ((c.tc : Thread nD τ).loc main_arg2)
/-- The centroids. -/
abbrev arg3 (c : Dev nD) : FVec Ideal S66x512 .f32 := m ((c.tc : Thread nD τ).loc main_arg3)

/-- The images that the region reads: the argument, its pixels in one axis. -/
theorem V_v0 (c : Dev nD) : V m c main_v0 = shapeCast S64x512x1024 (arg0 m c) shapeCasts_S64x512x32x32_S64x512x1024 := by
  simp only [V, V0, hostOps0, hostOps0_1, hostOps0_2, hostOps0_3, hostOps0_4, List.flatten_cons, List.flatten_nil, List.append_nil,
    List.cons_append, List.nil_append]
  after_results_simp
  rfl

/-- The weights that the region reads: padded with rows of zeros. -/
theorem V_v2 (c : Dev nD) : V m c main_v2 = truncf .bf16 (pad S80x512 ![0, 0] ![14, 0] ![0, 0] (arg1 m c) (sitofp .f32 (constantI S_ 32 0#32)) pads_S66x512_S80x512_0140_000 h_S_) bitsLt_bf16_f32 := by
  simp only [V, V0, hostOps0, hostOps0_1, hostOps0_2, hostOps0_3, hostOps0_4, List.flatten_cons, List.flatten_nil, List.append_nil,
    List.cons_append, List.nil_append]
  after_results_simp
  rfl

/-- The bias that the region reads: padded with `-∞`. -/
theorem V_v4 (c : Dev nD) : V m c main_v4 = shapeCast S80x1 (pad S80 ![0] ![14] ![0] (arg2 m c) (constant S_ .f32 0xFF800000#32) pads_S66_S80_0140 h_S_) shapeCasts_S80_S80x1 := by
  simp only [V, V0, hostOps0, hostOps0_1, hostOps0_2, hostOps0_3, hostOps0_4, List.flatten_cons, List.flatten_nil, List.append_nil,
    List.cons_append, List.nil_append]
  after_results_simp
  rfl

/-- The centroids that the region reads: those of the clusters that are kept. -/
theorem V_v5 (c : Dev nD) : V m c main_v5 = extractStridedSlice S64x512 ![0, 0] (arg3 m c) slices_S66x512_S64x512_0_0 := by
  simp only [V, V0, hostOps0, hostOps0_1, hostOps0_2, hostOps0_3, hostOps0_4, List.flatten_cons, List.flatten_nil, List.append_nil,
    List.cons_append, List.nil_append]
  after_results_simp

/-- Image `n` of the argument, its pixels in row-major order. -/
def imgX (c : Dev nD) (n : Fin 64) (ch : Fin 512) (p : Fin 1024) : EReal :=
  arg0 m c (ix4 n ch ⟨p.val / 32, by omega⟩ ⟨p.val % 32, by omega⟩)

/-- The images at coordinates. -/
theorem v0_apply (c : Dev nD) (n : Fin 64) (ch : Fin 512) (p : Fin 1024) : V m c main_v0 (ix3 n ch p) = imgX m c n ch p := by
  rw [V_v0]
  pointwise
  rfl

/-- The padded weights at coordinates. -/
theorem v2_apply (c : Dev nD) (k : Fin 80) (ch : Fin 512) :
    V m c main_v2 (ix2 k ch) = Spec.padW (fun k ch => arg1 m c (ix2 k ch)) k ch := by
  rw [V_v2]
  pointwise
  rw [Spec.padW, show (FloatOps.sitofp FTy.f32 0#32 : Ideal .f32) = 0 from by simp [FloatOps.sitofp]]

/-- The padded bias at a cluster. -/
theorem v4_apply (c : Dev nD) (k : Fin 80) : V m c main_v4 (ix2 k 0) = Spec.padB (fun k => arg2 m c (ix1 k)) k := by
  rw [V_v4]
  pointwise
  rw [Spec.padB, show Ideal.ofBits FTy.f32 0xFF800000#32 = ⊥ from by simp [Ideal.ofBits, Ideal.ieee]]

/-- The kept centroids at coordinates. -/
theorem v5_apply (c : Dev nD) (k : Fin 64) (ch : Fin 512) :
    V m c main_v5 (ix2 k ch) = arg3 m c (ix2 (k.castLE (by decide)) ch) := by
  rw [V_v5]
  pointwise
  rfl

/-- The region's result: image `n`'s value at cluster `k` and channel `d`. -/
def regionVal (c : Dev nD) (n : Fin 64) (k : Fin 64) (d : Fin 512) : EReal :=
  Spec.kOut (imgX m c n) (Spec.padW fun k ch => arg1 m c (ix2 k ch)) (Spec.padB fun k => arg2 m c (ix1 k))
    (fun k ch => arg3 m c (ix2 (k.castLE (by decide)) ch)) k d

/-- The region's result as an array. -/
def region (c : Dev nD) : (⟨S64x64x512, .f32⟩ : BufTy).Contents (Elt Ideal) := fun y => regionVal m c (y 0) (y 1) (y 2)

/-! ### The blocks at coordinates: point `t`'s images are those from `8 t` on, and the other operands are whole. -/

/-- Point `t` reads the block of images of number `t`. -/
theorem index0 : ∀ t : Fin cfg0.N, win0_0.index t = ![t.val, 0, 0] := (by decide +kernel : ∀ t : Fin grid0.N, _)
/-- Every point reads the weights whole. -/
theorem index1 : ∀ t : Fin cfg0.N, win0_1.index t = ![0, 0] := (by decide +kernel : ∀ t : Fin grid0.N, _)
/-- Every point reads the bias whole. -/
theorem index2 : ∀ t : Fin cfg0.N, win0_2.index t = ![0, 0] := (by decide +kernel : ∀ t : Fin grid0.N, _)
/-- Every point reads the centroids whole. -/
theorem index3 : ∀ t : Fin cfg0.N, win0_3.index t = ![0, 0] := (by decide +kernel : ∀ t : Fin grid0.N, _)
/-- Point `t` writes the block of results of number `t`. -/
theorem index4 : ∀ t : Fin cfg0.N, win0_4.index t = ![t.val, 0, 0] := (by decide +kernel : ∀ t : Fin grid0.N, _)

/-- Point `t`'s block at image `i` is image `8 t + i`. -/
theorem iblk0_apply (c : Dev nD) (t : Fin cfg0.N) (i : Fin 8) (n : Fin 64) (hn : n.val = t.val * 8 + i.val) (ch : Fin 512) (p : Fin 1024) :
    (iblk m c 0 t : Vec Ideal S8x512x1024 .f32) (ix3 i ch p) = imgX m c n ch p := by
  rw [← v0_apply]
  refine congrArg (V m c main_v0) ?_
  blk_ext [index0, hn]

/-- Point `t`'s weights at coordinates. -/
theorem iblk1_apply (c : Dev nD) (t : Fin cfg0.N) (k : Fin 80) (ch : Fin 512) :
    (iblk m c 1 t : Vec Ideal S80x512 .bf16) (ix2 k ch) = Spec.padW (fun k ch => arg1 m c (ix2 k ch)) k ch := by
  rw [← v2_apply]
  refine congrArg (V m c main_v2) ?_
  blk_ext [index1]

/-- Point `t`'s bias at a cluster. -/
theorem iblk2_apply (c : Dev nD) (t : Fin cfg0.N) (k : Fin 80) :
    (iblk m c 2 t : Vec Ideal S80x1 .f32) (ix2 k 0) = Spec.padB (fun k => arg2 m c (ix1 k)) k := by
  rw [← v4_apply]
  refine congrArg (V m c main_v4) ?_
  blk_ext [index2]

/-- Point `t`'s centroids at coordinates. -/
theorem iblk3_apply (c : Dev nD) (t : Fin cfg0.N) (k : Fin 64) (ch : Fin 512) :
    (iblk m c 3 t : Vec Ideal S64x512 .f32) (ix2 k ch) = arg3 m c (ix2 (k.castLE (by decide)) ch) := by
  rw [← v5_apply]
  refine congrArg (V m c main_v5) ?_
  blk_ext [index3]

/-- The region's result array is `region`. -/
theorem final (c : Dev nD) : (dats m 0 c).arrAt 4 cfg0.N = region m c := by
  refine (dats m 0 c).arrAt_eq_of_covers 4 _ (by decide +kernel) fun t hf y => ?_
  blk_simp
  rw [after0_4, block_apply]
  have key : ∀ (i : Fin 8) (k : Fin 64) (d : Fin 512) (n : Fin 64), n.val = t.val * 8 + i.val →
      blockVal (iblk m c 0 t) (iblk m c 1 t) (iblk m c 2 t) (iblk m c 3 t) i k d = regionVal m c n k d := fun i k d n hn => by
    unfold blockVal regionVal
    simp only [iblk0_apply m c t i n hn, iblk1_apply, iblk2_apply, iblk3_apply]
  have ey : (win0_4.blk t).view.emb y = ix3 ⟨t.val * 8 + (y 0).val, by
      have ht : t.val < 8 := t.isLt
      have hy : (y 0).val < 8 := (y 0).isLt
      omega⟩ (y 1) (y 2) := by
    blk_ext [index4]
  rw [ey]
  exact key (y 0) (y 1) (y 2) _ rfl

/-- The program's result, the trailing reshape included, at an index. -/
theorem result_apply (c : Dev nD) (n : Fin 64) (q : Fin 32768) :
    (Pipeline.afterTail₀ cfgs (dats m) 0 (V0 m) [hostOps1] c main_v7 : FVec Ideal S64x32768 .f32) (ix2 n q)
      = regionVal m c n ⟨q.val / 512, by omega⟩ ⟨q.val % 512, by omega⟩ := by
  have h : (Pipeline.afterTail₀ cfgs (dats m) 0 (V0 m) [hostOps1] c main_v7 : FVec Ideal S64x32768 .f32)
      = shapeCast S64x32768 (region m c) shapeCasts_S64x64x512_S64x32768 := by
    unfold Pipeline.afterTail₀
    simp only [hostOps1, List.flatten_cons, List.flatten_nil, List.append_nil]
    after_results_simp
    have hw := (Pipeline.withArrays_arr spec0 (by decide) c (V0 m c) (fun w => (dats m 0 c).arrAt w cfg0.N) 4).trans (final m c)
    exact congrArg (fun X => shapeCast S64x32768 X shapeCasts_S64x64x512_S64x32768) hw
  rw [h]
  pointwise
  rfl

/-- The program ends with its result as the lines after the region leave it, and with its arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v7) = Pipeline.afterTail₀ cfgs (dats m) 0 (V0 m) [hostOps1] c main_v7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (θ_run_and (run_main m ρ) (unchanged m ρ))
  exact ⟨(h.1 c).2 main_v7 (Pipeline.mem_restRefs_of main_v7 (by decide) (by decide)), h.2 c⟩

end Cert.KernelIdeal.Array

end
-- ==== Proof.Ref.lean ====
module

public import proofs.«01_k».proof.Proof.Gen.ReferenceIdeal.Run
public import proofs.«01_k».proof.Proof.Spec
public import Idealize.ShloMosaic.Lib.Pointwise

@[expose] public section

noncomputable section

/-! What the reference computes: its result read at one image, one cluster and one channel. -/

namespace Cert.ReferenceIdeal.Ref

open Idealize.ShloMosaic Idealize.ShloMosaic.TcCoe Idealize.SL.Sem Cert.ReferenceIdeal Cert.ReferenceIdeal.Gen

variable (x : FVec Ideal S64x512x32x32 .f32) (w : FVec Ideal S66x512 .f32) (b : FVec Ideal S66 .f32) (cen : FVec Ideal S66x512 .f32)

/-- Each pixel's channels over their norm, an image's pixels in row-major order. -/
def xnorm : FVec Ideal S64x512x1024 .f32 :=
  shapeCast S64x512x1024 (Host.divf x (broadcastInDim S64x512x32x32 ![0, 1, 2, 3] bcast_S64x1x32x32_S64x512x32x32_0_1_2_3
    (maximumf (Host.sqrt (broadcastInDim S64x1x32x32 ![0, 2, 3] bcast_S64x32x32_S64x1x32x32_0_2_3
        (Host.reduceAdd (mulf x x) (constant S_ .f32 0x00000000#32) reducesTo_S64x512x32x32_S64x32x32_d1 h_S_)))
      (broadcastInDim S64x1x32x32 ![] bcast_S_S64x1x32x32 (constant S_ .f32 0x2B8CBCCC#32)))))
    shapeCasts_S64x512x32x32_S64x512x1024

/-- The logits from the normalised pixels `y`. -/
def logits (y : FVec Ideal S64x512x1024 .f32) : FVec Ideal S64x66x1024 .f32 :=
  addf (transpose S64x66x1024 [1, 0, 2]
      (Host.dotGeneral dot_S66x512_S64x512x1024_S66x64x1024_1_1_0_02_n_n none w y) transposes_S66x64x1024_S64x66x1024_1_0_2)
    (broadcastInDim S64x66x1024 ![0, 1, 2] bcast_S1x66x1_S64x66x1024_0_1_2 (broadcastInDim S1x66x1 ![1] bcast_S66_S1x66x1_1 b))

/-- Each pixel's largest logit. -/
def top (l : FVec Ideal S64x66x1024 .f32) : FVec Ideal S64x1024 .f32 :=
  Host.reduce FloatOps.maximumf l (constant S_ .f32 0xFF800000#32) reducesTo_S64x66x1024_S64x1024_d1 h_S_

/-- Each pixel's shift, from its largest logit `t`: `t` again, `-∞` being the least there is. -/
def shift (t : FVec Ideal S64x1024 .f32) : FVec Ideal S64x1024 .f32 :=
  maximumf (broadcastInDim S64x1024 ![] bcast_S_S64x1024 (constant S_ .f32 0xFF800000#32)) t

/-- The exponentials of the shifted logits. -/
def expo (l : FVec Ideal S64x66x1024 .f32) (s : FVec Ideal S64x1024 .f32) : FVec Ideal S64x66x1024 .f32 :=
  Host.exp (subf l (broadcastInDim S64x66x1024 ![0, 1, 2] bcast_S64x1x1024_S64x66x1024_0_1_2
    (broadcastInDim S64x1x1024 ![0, 2] bcast_S64x1024_S64x1x1024_0_2 s)))

/-- The assignments: the exponentials over their sum over the clusters. -/
def assign (e : FVec Ideal S64x66x1024 .f32) : FVec Ideal S64x66x1024 .f32 :=
  Host.divf e (broadcastInDim S64x66x1024 ![0, 1, 2] bcast_S64x1x1024_S64x66x1024_0_1_2
    (broadcastInDim S64x1x1024 ![0, 2] bcast_S64x1024_S64x1x1024_0_2
      (Host.reduceAdd e (constant S_ .f32 0x00000000#32) reducesTo_S64x66x1024_S64x1024_d1 h_S_)))

/-- The residuals of the clusters that are kept. -/
def resid (a : FVec Ideal S64x66x1024 .f32) (y : FVec Ideal S64x512x1024 .f32) : FVec Ideal S64x64x512 .f32 :=
  extractStridedSlice S64x64x512 ![0, 0, 0]
    (subf (Host.dotGeneral dot_S64x66x1024_S64x512x1024_S64x66x512_2_2_1_1_0_0 none a y)
      (mulf (broadcastInDim S64x66x512 ![0, 1, 2] bcast_S64x66x1_S64x66x512_0_1_2 (broadcastInDim S64x66x1 ![0, 1] bcast_S64x66_S64x66x1_0_1
          (Host.reduceAdd a (constant S_ .f32 0x00000000#32) reducesTo_S64x66x1024_S64x66_d2 h_S_)))
        (broadcastInDim S64x66x512 ![0, 1, 2] bcast_S1x66x512_S64x66x512_0_1_2
          (broadcastInDim S1x66x512 ![1, 2] bcast_S66x512_S1x66x512_1_2 cen))))
    slices_S64x66x512_S64x64x512_0_0_0

/-- Each cluster's residuals over their norm, then in one row. -/
def rowNorm (v : FVec Ideal S64x64x512 .f32) : FVec Ideal S64x32768 .f32 :=
  shapeCast S64x32768 (Host.divf v (broadcastInDim S64x64x512 ![0, 1, 2] bcast_S64x64x1_S64x64x512_0_1_2
    (maximumf (Host.sqrt (broadcastInDim S64x64x1 ![0, 1] bcast_S64x64_S64x64x1_0_1
        (Host.reduceAdd (mulf v v) (constant S_ .f32 0x00000000#32) reducesTo_S64x64x512_S64x64_d2 h_S_)))
      (broadcastInDim S64x64x1 ![] bcast_S_S64x64x1 (constant S_ .f32 0x2B8CBCCC#32)))))
    shapeCasts_S64x64x512_S64x32768

/-- Each row over its norm. -/
def allNorm (v : FVec Ideal S64x32768 .f32) : FVec Ideal S64x32768 .f32 :=
  Host.divf v (broadcastInDim S64x32768 ![0, 1] bcast_S64x1_S64x32768_0_1
    (maximumf (Host.sqrt (broadcastInDim S64x1 ![0] bcast_S64_S64x1_0
        (Host.reduceAdd (mulf v v) (constant S_ .f32 0x00000000#32) reducesTo_S64x32768_S64_d1 h_S_)))
      (broadcastInDim S64x1 ![] bcast_S_S64x1 (constant S_ .f32 0x2B8CBCCC#32))))

/-- The reference's result from its four arguments. -/
def result : FVec Ideal S64x32768 .f32 :=
  allNorm (rowNorm (resid cen (assign (expo (logits w b (xnorm x)) (shift (top (logits w b (xnorm x)))))) (xnorm x)))

set_option maxRecDepth 8192 in
/-- `result` is the reference program's result. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

/-! ### Each stage at an index -/

/-- The float `1e-12` of the three norms is `eps`. -/
theorem eps_word : Ideal.ofBits .f32 0x2B8CBCCC#32 = ((Spec.eps : ℝ) : EReal) := by
  simp [Ideal.ofBits, Ideal.ieee, Spec.eps, -EReal.coe_mul]
  norm_num

/-- The float `-∞` is the least extended real. -/
theorem bot_word : Ideal.ofBits .f32 0xFF800000#32 = ⊥ := by
  simp [Ideal.ofBits, Ideal.ieee]

/-- Image `n` of the argument, its pixels in row-major order. -/
def imgX (n : Fin 64) (ch : Fin 512) (p : Fin 1024) : EReal :=
  x (ix4 n ch ⟨p.val / 32, by omega⟩ ⟨p.val % 32, by omega⟩)

/-- A normalised pixel at a channel. -/
theorem xnorm_apply (n : Fin 64) (ch : Fin 512) (p : Fin 1024) :
    xnorm x (ix3 n ch p) = Spec.rX (imgX x n) ch p := by
  unfold xnorm
  pointwise
  rw [eps_word]
  rfl

/-- The logit of cluster `k` at pixel `p`. -/
theorem logits_apply (y : FVec Ideal S64x512x1024 .f32) (n : Fin 64) (k : Fin 66) (p : Fin 1024) :
    logits w b y (ix3 n k p) = (∑ ch : Fin 512, w (ix2 k ch) * y (ix3 n ch p)) + b (ix1 k) := by
  unfold logits
  pointwise

/-- A pixel's largest logit, over the clusters. -/
theorem top_apply (l : FVec Ideal S64x66x1024 .f32) (n : Fin 64) (p : Fin 1024) :
    top l (ix2 n p) = Finset.univ.fold max ⊥ fun k => l (ix3 n k p) := by
  rw [← bot_word]
  unfold top
  pointwise

/-- The shift is the largest logit. -/
theorem shift_apply (t : FVec Ideal S64x1024 .f32) (n : Fin 64) (p : Fin 1024) : shift t (ix2 n p) = t (ix2 n p) := by
  unfold shift
  pointwise
  rw [bot_word]
  exact max_eq_right bot_le

/-- The exponential of a shifted logit. -/
theorem expo_apply (l : FVec Ideal S64x66x1024 .f32) (s : FVec Ideal S64x1024 .f32) (n : Fin 64) (k : Fin 66) (p : Fin 1024) :
    expo l s (ix3 n k p) = Ideal.exp (l (ix3 n k p) - s (ix2 n p)) := by
  unfold expo
  pointwise

/-- The assignment of pixel `p` to cluster `k`. -/
theorem assign_apply (e : FVec Ideal S64x66x1024 .f32) (n : Fin 64) (k : Fin 66) (p : Fin 1024) :
    assign e (ix3 n k p) = Ideal.div (e (ix3 n k p)) (∑ j : Fin 66, e (ix3 n j p)) := by
  unfold assign
  pointwise

/-- The residual of a kept cluster at a channel. -/
theorem resid_apply (a : FVec Ideal S64x66x1024 .f32) (y : FVec Ideal S64x512x1024 .f32) (n : Fin 64) (k : Fin 64) (ch : Fin 512) :
    resid cen a y (ix3 n k ch) = (∑ p : Fin 1024, a (ix3 n (k.castLE (by decide)) p) * y (ix3 n ch p))
      - (∑ p : Fin 1024, a (ix3 n (k.castLE (by decide)) p)) * cen (ix2 (k.castLE (by decide)) ch) := by
  unfold resid
  pointwise
  rfl

/-- The normalisation over the channels, at flat position `q`. -/
theorem rowNorm_apply (v : FVec Ideal S64x64x512 .f32) (n : Fin 64) (q : Fin 32768) :
    rowNorm v (ix2 n q) = Spec.rRow (fun k ch => v (ix3 n k ch)) ⟨q.val / 512, by omega⟩ ⟨q.val % 512, by omega⟩ := by
  unfold rowNorm
  pointwise
  rw [eps_word]
  rfl

/-- The normalisation of the whole row, at flat position `q`. -/
theorem allNorm_apply (v : FVec Ideal S64x32768 .f32) (n : Fin 64) (q : Fin 32768) :
    allNorm v (ix2 n q) = Ideal.div (v (ix2 n q)) (Spec.nrm (∑ r : Fin 32768, v (ix2 n r) * v (ix2 n r))) := by
  unfold allNorm
  pointwise
  rw [eps_word]
  rfl

/-! ### The result -/

/-- The residuals from the arguments: the reference's sums of image `n`. -/
theorem vlad_apply (n : Fin 64) (k : Fin 64) (ch : Fin 512) :
    resid cen (assign (expo (logits w b (xnorm x)) (shift (top (logits w b (xnorm x)))))) (xnorm x) (ix3 n k ch)
      = Spec.rVlad (imgX x n) (fun k ch => w (ix2 k ch)) (fun k => b (ix1 k)) (Spec.rTop (imgX x n) (fun k ch => w (ix2 k ch)) fun k => b (ix1 k)) (fun k ch => cen (ix2 k ch))
          (k.castLE (by decide)) ch := by
  simp only [resid_apply, assign_apply, expo_apply, shift_apply, top_apply, logits_apply, xnorm_apply]
  rfl

/-- The reference's result, at an index, is `Spec.rOut` of the image. -/
theorem result_apply (n : Fin 64) (q : Fin 32768) :
    result x w b cen (ix2 n q)
      = Spec.rOut (imgX x n) (fun k ch => w (ix2 k ch)) (fun k => b (ix1 k)) (Spec.rTop (imgX x n) (fun k ch => w (ix2 k ch)) fun k => b (ix1 k)) (fun k ch => cen (ix2 k ch))
          ⟨q.val / 512, by omega⟩ ⟨q.val % 512, by omega⟩ := by
  unfold result
  rw [allNorm_apply]
  simp only [rowNorm_apply, vlad_apply]
  rw [Spec.sum_split (m := 64) (n := 512)]
  unfold Spec.rOut Spec.rAll
  refine congrArg (fun s => Ideal.div _ (Spec.nrm s)) (Finset.sum_congr rfl fun k _ => Finset.sum_congr rfl fun d _ => ?_)
  have hk : (⟨(finProdFinEquiv (k, d)).val / 512, by omega⟩ : Fin 64) = k := Fin.ext (by simp [finProdFinEquiv]; omega)
  have hd : (⟨(finProdFinEquiv (k, d)).val % 512, by omega⟩ : Fin 512) = d := Fin.ext (by simp [finProdFinEquiv])
  rw [hk, hd]

end Cert.ReferenceIdeal.Ref

end
-- ==== Proof.Finite.lean ====
module

public import proofs.«01_k».proof.Proof.Gen.Pre_finite
public import Idealize.ShloMosaic.Lib.Pointwise
public import Idealize.ShloMosaic.Lib.ReduceAll
public import Idealize.ShloMosaic.Lib.KernelVsHost

@[expose] public section

noncomputable section

/-! What the precondition says: every weight of the assignment is a real. -/

namespace Cert.Pre_finite.Finite

open Idealize.ShloMosaic Cert.Pre_finite Cert.Pre_finite.Gen

/-- A value whose absolute value is less than infinity is a real. -/
theorem real_of_lt {x : EReal}
    (h : FloatOps.cmpf .olt (FloatOps.hostAbsf (F := Ideal) (φ := .f32) x) (FloatOps.ofBits (F := Ideal) .f32 0x7F800000#32) = 1#1) :
    ∃ r : ℝ, x = (r : EReal) := by
  have ht : Ideal.ofBits .f32 0x7F800000#32 = ⊤ := by simp [Ideal.ofBits, Ideal.ieee]
  have hlt : max x (-x) < ⊤ := by
    rw [← ht]
    by_contra hn
    simp [FloatOps.cmpf, FloatOps.hostAbsf, FloatOps.ofBits, Ideal.cmp, hn] at h
  induction x with
  | bot => simp at hlt
  | top => simp at hlt
  | coe r => exact ⟨r, rfl⟩

/-- Under the precondition the weights are reals. -/
theorem reals {x0 : FVec Ideal S64x512x32x32 .f32} {w : FVec Ideal S66x512 .f32} {b : FVec Ideal S66 .f32} {cen : FVec Ideal S66x512 .f32}
    (h : fn (F := Ideal) x0 w b cen = fun _ => 1#1) (k : Fin 66) (ch : Fin 512) : ∃ r : ℝ, w (ix2 k ch) = (r : EReal) := by
  have h0 := congrFun h (Shape.Idx.first Gen.h_S_)
  dsimp only [fn] at h0
  haveI : Subsingleton S_.Idx := ⟨fun a b => funext fun i => i.elim0⟩
  exact real_of_lt (Host.reduce_andi_all _ _ _ _ _ h0 (ix2 k ch))

end Cert.Pre_finite.Finite

end
-- ==== Proof.Equation.lean ====
module

public import proofs.«01_k».proof.Defs
public import proofs.«01_k».proof.Proof.Array
public import proofs.«01_k».proof.Proof.Ref
public import proofs.«01_k».proof.Proof.Finite

@[expose] public section

noncomputable section

/-! The equation: from equal arguments, with real weights, the kernel's result is the reference's. -/

namespace Cert.Equation

open Idealize.ShloMosaic Idealize.ShloMosaic.TcCoe Idealize.SL.Sem

variable (m : (ℓ : Loc KernelIdeal.nD KernelIdeal.τ KernelIdeal.sig) → Buf (Elt Ideal) ℓ) (c : Dev KernelIdeal.nD)

/-- At one image, cluster and channel: the kernel's value is the reference's. -/
theorem region_eq (hw : ∀ k ch, ∃ r : ℝ, KernelIdeal.Array.arg1 m c (ix2 k ch) = (r : EReal)) (n k : Fin 64) (d : Fin 512) :
    KernelIdeal.Array.regionVal m c n k d
      = Spec.rOut (ReferenceIdeal.Ref.imgX (KernelIdeal.Array.arg0 m c) n) (fun k ch => KernelIdeal.Array.arg1 m c (ix2 k ch))
          (fun k => KernelIdeal.Array.arg2 m c (ix1 k))
          (Spec.rTop (ReferenceIdeal.Ref.imgX (KernelIdeal.Array.arg0 m c) n) (fun k ch => KernelIdeal.Array.arg1 m c (ix2 k ch))
            fun k => KernelIdeal.Array.arg2 m c (ix1 k))
          (fun k ch => KernelIdeal.Array.arg3 m c (ix2 k ch)) k d := by
  unfold KernelIdeal.Array.regionVal
  rw [Spec.kOut_eq_rOut (C' := fun k ch => KernelIdeal.Array.arg3 m c (ix2 k ch)) hw fun _ _ => rfl]
  rfl

/-- The two results, as functions of the kernel's arguments, are one array. -/
theorem result_eq (hw : ∀ k ch, ∃ r : ℝ, KernelIdeal.Array.arg1 m c (ix2 k ch) = (r : EReal)) :
    Pipeline.afterTail₀ KernelIdeal.cfgs (KernelIdeal.Gen.dats m) 0 (KernelIdeal.Gen.V0 m) [KernelIdeal.Gen.hostOps1] c KernelIdeal.main_v7
      = ReferenceIdeal.Ref.result (KernelIdeal.Array.arg0 m c) (KernelIdeal.Array.arg1 m c) (KernelIdeal.Array.arg2 m c)
          (KernelIdeal.Array.arg3 m c) := by
  funext j
  have key (n : Fin 64) (q : Fin 32768) :=
    ((KernelIdeal.Array.result_apply m c n q).trans (region_eq m c hw n _ _)).trans
      (ReferenceIdeal.Ref.result_apply _ _ _ _ n q).symm
  have ej : j = ix2 (j 0) (j 1) := by
    ext i; fin_cases i <;> rfl
  rw [ej]
  exact key (j 0) (j 1)

/-- The same, of the two programs' memories: the reference's arguments are the kernel's, and the precondition holds. -/
theorem results (m' : (ℓ : Loc ReferenceIdeal.nD ReferenceIdeal.τ ReferenceIdeal.sig) → Buf (Elt Ideal) ℓ)
    (hpre : Pre_finite.fn (F := Ideal) (KernelIdeal.Array.arg0 m c) (KernelIdeal.Array.arg1 m c) (KernelIdeal.Array.arg2 m c)
      (KernelIdeal.Array.arg3 m c) = fun _ => 1#1)
    (h0 : m' ((c.tc : Thread ReferenceIdeal.nD ReferenceIdeal.τ).loc ReferenceIdeal.main_arg0) = KernelIdeal.Array.arg0 m c)
    (h1 : m' ((c.tc : Thread ReferenceIdeal.nD ReferenceIdeal.τ).loc ReferenceIdeal.main_arg1) = KernelIdeal.Array.arg1 m c)
    (h2 : m' ((c.tc : Thread ReferenceIdeal.nD ReferenceIdeal.τ).loc ReferenceIdeal.main_arg2) = KernelIdeal.Array.arg2 m c)
    (h3 : m' ((c.tc : Thread ReferenceIdeal.nD ReferenceIdeal.τ).loc ReferenceIdeal.main_arg3) = KernelIdeal.Array.arg3 m c) :
    ReferenceIdeal.Value.res_main_v50 m' c
      = Pipeline.afterTail₀ KernelIdeal.cfgs (KernelIdeal.Gen.dats m) 0 (KernelIdeal.Gen.V0 m) [KernelIdeal.Gen.hostOps1] c
          KernelIdeal.main_v7 := by
  refine (ReferenceIdeal.Ref.res_eq m' c).trans ?_
  rw [h0, h1, h2, h3]
  exact (result_eq m c (Pre_finite.Finite.reals hpre)).symm

end Cert.Equation

end
-- ==== Proof.lean ====
/-
  The claims of this certificate, assembled: the frames are the generated ones and the reference's run, and the equation of
  kernel and reference is `Cert.Equation.results`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the reference ends, its arguments unchanged and its counters at zero. -/
theorem reference_frame : quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From equal arguments, the weights finite, the kernel and the reference end with equal results. -/
theorem algebraic : algebraic_KernelIdeal_ReferenceIdeal_pre_finite := fun m g m' g' hpre hargs =>
  ⟨fun c => _, Cert.KernelIdeal.Array.run m g,
    (θ_run Cert.ReferenceIdeal.defs _ _).mono
      (fun _ h c => ⟨(h c).1.trans
        (Cert.Equation.results m c m' (hpre c) (hargs c).1 (hargs c).2.1 (hargs c).2.2.1 (hargs c).2.2.2), (h c).2⟩)
      (Cert.ReferenceIdeal.Value.run (F := Ideal) m' g')⟩

/-- The five claims: the three frames, the named constant, and the equation of kernel and reference. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement _ _ _ _ _ rfl,
    algebraic⟩

end Cert.Proof

end
